-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x192x384x384 : Shape := ⟨4, ![4, 192, 384, 384]⟩
abbrev S4x8x96x96 : Shape := ⟨4, ![4, 8, 96, 96]⟩
abbrev S8x192x192 : Shape := ⟨3, ![8, 192, 192]⟩
abbrev S8x192 : Shape := ⟨2, ![8, 192]⟩
abbrev S_ : Shape := ⟨0, ![]⟩
abbrev S4x8x96x4x96 : Shape := ⟨5, ![4, 8, 96, 4, 96]⟩
abbrev S4x8x384x96 : Shape := ⟨4, ![4, 8, 384, 96]⟩
abbrev S4x8x384x96x4 : Shape := ⟨5, ![4, 8, 384, 96, 4]⟩
abbrev S4x8x384x384 : Shape := ⟨4, ![4, 8, 384, 384]⟩
abbrev S4x8x147456 : Shape := ⟨3, ![4, 8, 147456]⟩
abbrev S4x192x147456 : Shape := ⟨3, ![4, 192, 147456]⟩
abbrev S4x8x192 : Shape := ⟨3, ![4, 8, 192]⟩
abbrev S4x8x128 : Shape := ⟨3, ![4, 8, 128]⟩
abbrev S8x4x192 : Shape := ⟨3, ![8, 4, 192]⟩
abbrev S4x8x1 : Shape := ⟨3, ![4, 8, 1]⟩
abbrev S4x8 : Shape := ⟨2, ![4, 8]⟩
abbrev S8x4 : Shape := ⟨2, ![8, 4]⟩
abbrev S8x1x4 : Shape := ⟨3, ![8, 1, 4]⟩
abbrev S8x1x192 : Shape := ⟨3, ![8, 1, 192]⟩
abbrev S1x192x24576 : Shape := ⟨3, ![1, 192, 24576]⟩
abbrev S1x8x24576 : Shape := ⟨3, ![1, 8, 24576]⟩
abbrev S1x8x192 : Shape := ⟨3, ![1, 8, 192]⟩
abbrev S1x8x128 : Shape := ⟨3, ![1, 8, 128]⟩
abbrev S8x24576 : Shape := ⟨2, ![8, 24576]⟩
abbrev S192x24576 : Shape := ⟨2, ![192, 24576]⟩
abbrev S8x128 : Shape := ⟨2, ![8, 128]⟩
abbrev S8 : Shape := ⟨1, ![8]⟩
abbrev S8x1 : Shape := ⟨2, ![8, 1]⟩
abbrev S1x4x192 : Shape := ⟨3, ![1, 4, 192]⟩
abbrev S1x1x4 : Shape := ⟨3, ![1, 1, 4]⟩
abbrev S1x192x192 : Shape := ⟨3, ![1, 192, 192]⟩
abbrev S1x1x192 : Shape := ⟨3, ![1, 1, 192]⟩
abbrev S4 : Shape := ⟨1, ![4]⟩
abbrev S4x192 : Shape := ⟨2, ![4, 192]⟩
abbrev S4x1 : Shape := ⟨2, ![4, 1]⟩
abbrev S192x192 : Shape := ⟨2, ![192, 192]⟩
abbrev S1x192 : Shape := ⟨2, ![1, 192]⟩

abbrev nBuf : Space → Nat
  | .hbm => 24
  | .vmem => 18
  | .smem => 0
  | _ => 0

abbrev bufTy : (tb : Table) → Fin (tcTables nBuf tb) → BufTy
  | .hbm, ⟨0, _⟩ => ⟨S4x192x384x384, .f32⟩
  | .hbm, ⟨1, _⟩ => ⟨S4x8x96x96, .f32⟩
  | .hbm, ⟨2, _⟩ => ⟨S8x192x192, .f32⟩
  | .hbm, ⟨3, _⟩ => ⟨S8x192, .f32⟩
  | .hbm, ⟨4, _⟩ => ⟨S_, .f32⟩
  | .hbm, ⟨5, _⟩ => ⟨S4x8x96x96, .f32⟩
  | .hbm, ⟨6, _⟩ => ⟨S4x8x96x96, .i1⟩
  | .hbm, ⟨7, _⟩ => ⟨S4x8x96x96, .bf16⟩
  | .hbm, ⟨8, _⟩ => ⟨S4x8x96x4x96, .bf16⟩
  | .hbm, ⟨9, _⟩ => ⟨S4x8x384x96, .bf16⟩
  | .hbm, ⟨10, _⟩ => ⟨S4x8x384x96x4, .bf16⟩
  | .hbm, ⟨11, _⟩ => ⟨S4x8x384x384, .bf16⟩
  | .hbm, ⟨12, _⟩ => ⟨S4x8x147456, .bf16⟩
  | .hbm, ⟨13, _⟩ => ⟨S4x192x147456, .f32⟩
  | .hbm, ⟨14, _⟩ => ⟨S4x8x192, .f32⟩
  | .hbm, ⟨15, _⟩ => ⟨S4x8x128, .f32⟩
  | .hbm, ⟨16, _⟩ => ⟨S8x4x192, .f32⟩
  | .hbm, ⟨17, _⟩ => ⟨S4x8x1, .f32⟩
  | .hbm, ⟨18, _⟩ => ⟨S4x8, .f32⟩
  | .hbm, ⟨19, _⟩ => ⟨S8x4, .f32⟩
  | .hbm, ⟨20, _⟩ => ⟨S8x1x4, .f32⟩
  | .hbm, ⟨21, _⟩ => ⟨S8x1x192, .f32⟩
  | .hbm, ⟨22, _⟩ => ⟨S8x4x192, .f32⟩
  | .hbm, ⟨23, _⟩ => ⟨S4x8x192, .f32⟩
  | .local _ .vmem, ⟨0, _⟩ => ⟨S1x192x24576, .f32⟩
  | .local _ .vmem, ⟨1, _⟩ => ⟨S1x192x24576, .f32⟩
  | .local _ .vmem, ⟨2, _⟩ => ⟨S1x8x24576, .bf16⟩
  | .local _ .vmem, ⟨3, _⟩ => ⟨S1x8x24576, .bf16⟩
  | .local _ .vmem, ⟨4, _⟩ => ⟨S1x8x192, .f32⟩
  | .local _ .vmem, ⟨5, _⟩ => ⟨S1x8x192, .f32⟩
  | .local _ .vmem, ⟨6, _⟩ => ⟨S1x8x128, .f32⟩
  | .local _ .vmem, ⟨7, _⟩ => ⟨S1x8x128, .f32⟩
  | .local _ .vmem, ⟨8, _⟩ => ⟨S1x4x192, .f32⟩
  | .local _ .vmem, ⟨9, _⟩ => ⟨S1x4x192, .f32⟩
  | .local _ .vmem, ⟨10, _⟩ => ⟨S1x1x4, .f32⟩
  | .local _ .vmem, ⟨11, _⟩ => ⟨S1x1x4, .f32⟩
  | .local _ .vmem, ⟨12, _⟩ => ⟨S1x192x192, .f32⟩
  | .local _ .vmem, ⟨13, _⟩ => ⟨S1x192x192, .f32⟩
  | .local _ .vmem, ⟨14, _⟩ => ⟨S1x1x192, .f32⟩
  | .local _ .vmem, ⟨15, _⟩ => ⟨S1x1x192, .f32⟩
  | .local _ .vmem, ⟨16, _⟩ => ⟨S1x4x192, .f32⟩
  | .local _ .vmem, ⟨17, _⟩ => ⟨S1x4x192, .f32⟩
  | _, _ => ⟨S4x192x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9_0 : Ref sig .tc := ⟨.hbm, 14, rfl⟩
abbrev main_call0_v9_1 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![4, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x192x24576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x24576 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x192x192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x4x192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S4x192x384x384 : Shape := ⟨4, ![4, 192, 384, 384]⟩
abbrev S4x8x96x96 : Shape := ⟨4, ![4, 8, 96, 96]⟩
abbrev S8x192x192 : Shape := ⟨3, ![8, 192, 192]⟩
abbrev S8x192 : Shape := ⟨2, ![8, 192]⟩
abbrev S4x8x96x4x96 : Shape := ⟨5, ![4, 8, 96, 4, 96]⟩
abbrev S4x8x384x96 : Shape := ⟨4, ![4, 8, 384, 96]⟩
abbrev S4x8x384x96x4 : Shape := ⟨5, ![4, 8, 384, 96, 4]⟩
abbrev S4x8x384x384 : Shape := ⟨4, ![4, 8, 384, 384]⟩
abbrev S_ : Shape := ⟨0, ![]⟩
abbrev S4x8 : Shape := ⟨2, ![4, 8]⟩
abbrev S4x8x192 : Shape := ⟨3, ![4, 8, 192]⟩
abbrev S4x8x1 : Shape := ⟨3, ![4, 8, 1]⟩
abbrev S8x192x4 : Shape := ⟨3, ![8, 192, 4]⟩
abbrev S1x8x192 : Shape := ⟨3, ![1, 8, 192]⟩

abbrev nBuf : Space → Nat
  | .hbm => 37
  | .vmem => 0
  | .smem => 0
  | _ => 0

abbrev bufTy : (tb : Table) → Fin (tcTables nBuf tb) → BufTy
  | .hbm, ⟨0, _⟩ => ⟨S4x192x384x384, .f32⟩
  | .hbm, ⟨1, _⟩ => ⟨S4x8x96x96, .f32⟩
  | .hbm, ⟨2, _⟩ => ⟨S8x192x192, .f32⟩
  | .hbm, ⟨3, _⟩ => ⟨S8x192, .f32⟩
  | .hbm, ⟨4, _⟩ => ⟨S4x8x96x4x96, .f32⟩
  | .hbm, ⟨5, _⟩ => ⟨S4x8x384x96, .f32⟩
  | .hbm, ⟨6, _⟩ => ⟨S4x8x384x96x4, .f32⟩
  | .hbm, ⟨7, _⟩ => ⟨S4x8x384x384, .f32⟩
  | .hbm, ⟨8, _⟩ => ⟨S_, .f32⟩
  | .hbm, ⟨9, _⟩ => ⟨S4x8x384x384, .f32⟩
  | .hbm, ⟨10, _⟩ => ⟨S4x8x384x384, .i1⟩
  | .hbm, ⟨11, _⟩ => ⟨S4x8x384x384, .f32⟩
  | .hbm, ⟨12, _⟩ => ⟨S_, .f32⟩
  | .hbm, ⟨13, _⟩ => ⟨S4x8, .f32⟩
  | .hbm, ⟨14, _⟩ => ⟨S4x8x192, .f32⟩
  | .hbm, ⟨15, _⟩ => ⟨S_, .f32⟩
  | .hbm, ⟨16, _⟩ => ⟨S4x8, .f32⟩
  | .hbm, ⟨17, _⟩ => ⟨S4x8, .f32⟩
  | .hbm, ⟨18, _⟩ => ⟨S4x8x1, .f32⟩
  | .hbm, ⟨19, _⟩ => ⟨S4x8x192, .f32⟩
  | .hbm, ⟨20, _⟩ => ⟨S4x8x192, .f32⟩
  | .hbm, ⟨21, _⟩ => ⟨S_, .f32⟩
  | .hbm, ⟨22, _⟩ => ⟨S4x8x192, .f32⟩
  | .hbm, ⟨23, _⟩ => ⟨S4x8x192, .f32⟩
  | .hbm, ⟨24, _⟩ => ⟨S8x192x4, .f32⟩
  | .hbm, ⟨25, _⟩ => ⟨S4x8x192, .f32⟩
  | .hbm, ⟨26, _⟩ => ⟨S1x8x192, .f32⟩
  | .hbm, ⟨27, _⟩ => ⟨S4x8x192, .f32⟩
  | .hbm, ⟨28, _⟩ => ⟨S4x8x192, .f32⟩
  | .hbm, ⟨29, _⟩ => ⟨S_, .f32⟩
  | .hbm, ⟨30, _⟩ => ⟨S4x8, .f32⟩
  | .hbm, ⟨31, _⟩ => ⟨S4x8, .i1⟩
  | .hbm, ⟨32, _⟩ => ⟨S4x8x1, .i1⟩
  | .hbm, ⟨33, _⟩ => ⟨S_, .f32⟩
  | .hbm, ⟨34, _⟩ => ⟨S4x8x192, .f32⟩
  | .hbm, ⟨35, _⟩ => ⟨S4x8x192, .i1⟩
  | .hbm, ⟨36, _⟩ => ⟨S4x8x192, .f32⟩
  | _, _ => ⟨S4x192x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_call1_v0 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Proof.Run.lean ====
module

public import proofs.«01_k».proof.Proof.Gen.KernelIdeal.Frame

@[expose] public section

set_option maxRecDepth 16384

noncomputable section

namespace Cert.KernelIdeal.Seg

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

-- the launch lemma's implicit arguments are found by unifying its conclusion with this one
set_option backward.isDefEq.respectTransparency.types false in
/-- Every run of the program ends with each buffer of the whole program at the contents the fold through its five
    segments gives it (`W5`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

/-- Every run ends with the result array at the fold's contents and the four arguments unchanged. -/
theorem run : θ_run defs (onTc (τ := τ) (main (F := F))) ⟨m, fun _ => 0, ρ⟩ (fun r => ∀ c : Dev nD,
      r.2.mem ((c.tc : Thread nD τ).loc main_v0) = W5 m ρ c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)
    (run_all m ρ)

end Cert.KernelIdeal.Seg

end
-- ==== Proof.Payload.lean ====
module

public import proofs.«01_k».proof.Proof.Gen.KernelIdeal.Skeleton
public import Idealize.ShloMosaic.Lib.Pointwise

@[expose] public section

noncomputable section

namespace Cert.KernelIdeal.Seg

open Idealize.ShloMosaic Cert.KernelIdeal.Gen

variable [Facts]

/-- The first payload of the segment-sum kernel is the zero block. -/
theorem pay1_apply (j : Fin 8) (c : Fin 192) : k0_pay1 (F := Ideal) (ix3 0 j c) = 0 := by
  pointwise [k0_pay1]

/-- The second payload of the segment-sum kernel is the zero block. -/
theorem pay2_apply (j : Fin 8) (l : Fin 128) : k0_pay2 (F := Ideal) (ix3 0 j l) = 0 := by
  pointwise [k0_pay2]

/-- One grid point adds to the running sum of segment `j` and channel `c` the products of the mask block with the
    feature block over the block's 24576 positions. -/
theorem pay4_apply (v3 : Vec Ideal S1x8x24576 .bf16) (v5 : Vec Ideal S1x192x24576 .f32) (v9 : Vec Ideal S1x8x192 .f32)
    (j : Fin 8) (c : Fin 192) :
    k0_pay4 v3 v5 v9 (ix3 0 j c) = v9 (ix3 0 j c) + ∑ k : Fin 24576, v3 (ix3 0 j k) * v5 (ix3 0 c k) := by
  pointwise [k0_pay4, k0_pay3, dot_S8x24576_S192x24576_S8x192_1_1_0_0_n_n]

/-- One grid point adds to every lane of the running area of segment `j` the mask block's sum over its 24576 positions. -/
theorem pay5_apply (v3 : Vec Ideal S1x8x24576 .bf16) (v15 : Vec Ideal S1x8x128 .f32) (j : Fin 8) (l : Fin 128) :
    k0_pay5 v3 v15 (ix3 0 j l) = v15 (ix3 0 j l) + ∑ k : Fin 24576, v3 (ix3 0 j k) := by
  pointwise [k0_pay5, k0_pay3]

/-- The linear kernel's block: the mean features of segment (its sums over its area, the area taken at least one),
    cut at zero, times the segment's weights, plus its bias; zero where the area is zero. -/
theorem lin_apply (v0 : Vec Ideal S1x1x4 .f32) (v2 : Vec Ideal S1x4x192 .f32) (v11 : Vec Ideal S1x192x192 .f32)
    (v14 : Vec Ideal S1x1x192 .f32) (b : Fin 4) (d : Fin 192) :
    k1_pay1 v0 v2 v11 v14 (ix3 0 b d)
      = Scalar.select (Ideal.cmp .ogt (v0 (ix3 0 0 b)) 0)
          ((∑ c : Fin 192, max (Ideal.div (v2 (ix3 0 b c)) (max (v0 (ix3 0 0 b)) 1)) 0 * v11 (ix3 0 d c)) + v14 (ix3 0 0 d))
          0 := by
  pointwise [k1_pay1, dot_S4x192_S192x192_S4x192_1_1_0_0_n_n]

end Cert.KernelIdeal.Seg

end
-- ==== Proof.Cases.lean ====
module

public import proofs.«01_k».proof.Proof.Payload
public import proofs.«01_k».proof.Proof.Gen.KernelIdeal.Frame
public import Idealize.ShloMosaic.Lib.Pipeline.Value

@[expose] public section

set_option maxRecDepth 16384

noncomputable section

namespace Cert.KernelIdeal.Seg

open Idealize.ShloMosaic Idealize.ShloMosaic.TcCoe Idealize.ShloMosaic.Tactic Cert.KernelIdeal.Gen
open Idealize.ShloMosaic.Pipeline (Dat)

variable {F : FTy → Type} [FloatOps F]

/-- The offsets of every load and store of the two kernels are zero. -/
theorem hz : (![0, 0, 0] : Fin 3 → Nat) = fun _ => 0 := funext fun a => by fin_cases a <;> rfl

/-- Within a batch, a point leaves in the sums' buffer the update of what the buffer held. -/
theorem sums_B (c : Dev nD) (i : grid0.Coords)
    (a2 : Memref sig .tc .vmem S1x192x24576 .f32) (h2 : a2.IsWhole) (a3 : Memref sig .tc .vmem S1x8x24576 .bf16) (h3 : a3.IsWhole)
    (a4 : Memref sig .tc .vmem S1x8x192 .f32) (h4 : a4.IsWhole) (a5 : Memref sig .tc .vmem S1x8x128 .f32) (h5 : a5.IsWhole)
    (hc : ¬cond0_0 i) (x0 : Vec F S1x192x24576 .f32) (x1 : Vec F S1x8x24576 .bf16) (xo2 : Vec F S1x8x192 .f32) (xo3 : Vec F S1x8x128 .f32) :
    out0_B_2 c i a2 h2 a3 h3 a4 h4 a5 h5 hc x0 x1 xo2 xo3 = k0_pay4 x1 x0 xo2 := by
  unfold out0_B_2
  rw [View.read_writes_eq_canon _ _ _ (cover0_B_2 c i a2 h2 a3 h3 a4 h4 a5 h5 hc x0 x1 xo2 xo3)]
  unfold kernelRun0_B
  dsimp only
  rw [View.canon_unit_zero hz]
  simp only [View.readAt_eq_ld, h2.read_unread, h3.read_unread, h4.read_unread, h5.read_unread, View.ld_unit_zero (S := S1x192x24576) hz,
    View.ld_unit_zero (S := S1x8x24576) hz, View.ld_unit_zero (S := S1x8x192) hz]

/-- Within a batch, a point leaves in the areas' buffer the update of what the buffer held. -/
theorem area_B (c : Dev nD) (i : grid0.Coords)
    (a2 : Memref sig .tc .vmem S1x192x24576 .f32) (h2 : a2.IsWhole) (a3 : Memref sig .tc .vmem S1x8x24576 .bf16) (h3 : a3.IsWhole)
    (a4 : Memref sig .tc .vmem S1x8x192 .f32) (h4 : a4.IsWhole) (a5 : Memref sig .tc .vmem S1x8x128 .f32) (h5 : a5.IsWhole)
    (hc : ¬cond0_0 i) (x0 : Vec F S1x192x24576 .f32) (x1 : Vec F S1x8x24576 .bf16) (xo2 : Vec F S1x8x192 .f32) (xo3 : Vec F S1x8x128 .f32) :
    out0_B_3 c i a2 h2 a3 h3 a4 h4 a5 h5 hc x0 x1 xo2 xo3 = k0_pay5 x1 xo3 := by
  unfold out0_B_3
  rw [View.read_writes_eq_canon _ _ _ (cover0_B_3 c i a2 h2 a3 h3 a4 h4 a5 h5 hc x0 x1 xo2 xo3)]
  unfold kernelRun0_B
  dsimp only
  rw [View.canon_unit_zero hz]
  simp only [View.readAt_eq_ld, h2.read_unread, h3.read_unread, h4.read_unread, h5.read_unread,
    View.ld_unit_zero (S := S1x8x24576) hz, View.ld_unit_zero (S := S1x8x128) hz]

/-- A batch's first point leaves in the sums' buffer the update of the zero block. -/
theorem sums_A (c : Dev nD) (i : grid0.Coords)
    (a2 : Memref sig .tc .vmem S1x192x24576 .f32) (h2 : a2.IsWhole) (a3 : Memref sig .tc .vmem S1x8x24576 .bf16) (h3 : a3.IsWhole)
    (a4 : Memref sig .tc .vmem S1x8x192 .f32) (h4 : a4.IsWhole) (a5 : Memref sig .tc .vmem S1x8x128 .f32) (h5 : a5.IsWhole)
    (hc : cond0_0 i) (x0 : Vec F S1x192x24576 .f32) (x1 : Vec F S1x8x24576 .bf16) :
    out0_A_2 c i a2 h2 a3 h3 a4 h4 a5 h5 hc x0 x1 = k0_pay4 x1 x0 k0_pay1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x8x192) hz, View.readCov_unit_zero (S := S1x8x192) _ hz]
  simp only [View.readAt_eq_ld, h2.read_unread, h3.read_unread, View.ld_unit_zero (S := S1x192x24576) hz,
    View.ld_unit_zero (S := S1x8x24576) hz]

/-- A batch's first point leaves in the areas' buffer the update of the zero block. -/
theorem area_A (c : Dev nD) (i : grid0.Coords)
    (a2 : Memref sig .tc .vmem S1x192x24576 .f32) (h2 : a2.IsWhole) (a3 : Memref sig .tc .vmem S1x8x24576 .bf16) (h3 : a3.IsWhole)
    (a4 : Memref sig .tc .vmem S1x8x192 .f32) (h4 : a4.IsWhole) (a5 : Memref sig .tc .vmem S1x8x128 .f32) (h5 : a5.IsWhole)
    (hc : cond0_0 i) (x0 : Vec F S1x192x24576 .f32) (x1 : Vec F S1x8x24576 .bf16) :
    out0_A_3 c i a2 h2 a3 h3 a4 h4 a5 h5 hc x0 x1 = k0_pay5 x1 k0_pay2 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x8x128) hz, View.readCov_unit_zero (S := S1x8x128) _ hz]
  simp only [View.readAt_eq_ld, h3.read_unread, View.ld_unit_zero (S := S1x8x24576) hz]

/-- The linear kernel's block is its payload at the four blocks it reads. -/
theorem lin_out (x0 : Vec F S1x4x192 .f32) (x1 : Vec F S1x1x4 .f32) (x2 : Vec F S1x192x192 .f32) (x3 : Vec F S1x1x192 .f32) :
    out1_4 x0 x1 x2 x3 = k1_pay1 x1 x0 x2 x3 := by
  unfold out1_4
  rw [View.canon_unit_zero hz]
  simp only [View.ld_unit_zero (S := S1x1x4) hz, View.ld_unit_zero (S := S1x4x192) hz,
    View.ld_unit_zero (S := S1x192x192) hz, View.ld_unit_zero (S := S1x1x192) hz]

end Cert.KernelIdeal.Seg

end
-- ==== Proof.Fold.lean ====
module

public import proofs.«01_k».proof.Proof.Cases

@[expose] public section

set_option maxRecDepth 16384

noncomputable section

namespace Cert.KernelIdeal.Seg

open Idealize.ShloMosaic Idealize.ShloMosaic.TcCoe Idealize.ShloMosaic.Tactic Cert.KernelIdeal.Gen
open Idealize.ShloMosaic.Pipeline (Dat)

/-- The sum of a pixel function over the `k`-th of the image's six runs of 24576 pixels. -/
def tile (f : Fin 147456 → EReal) (k : ℕ) : EReal :=
  if h : k < 6 then ∑ l : Fin 24576, f ⟨k * 24576 + l.val, by omega⟩ else 0

/-- The six runs together are the sum over the image. -/
theorem sum_tile (f : Fin 147456 → EReal) : ∑ k ∈ Finset.range 6, tile f k = ∑ p, f p := by
  rw [Fin.sum_univ_tiles 6 24576 (by norm_num) f, Finset.sum_range]
  refine Finset.sum_congr rfl fun k _ => ?_
  rw [tile, dif_pos k.isLt]

variable (V : (c : Dev nD) → (b : Ref sig .tc) → Buf (Elt Ideal) ((c : Thread nD τ).loc b)) (c : Dev nD)

/-- The masks, as region 0 finds them. -/
abbrev masks : Vec Ideal S4x8x147456 .bf16 := V c main_call0_v7
/-- The images, as region 0 finds them. -/
abbrev imgs : Vec Ideal S4x192x147456 .f32 := V c main_call0_v8

/-- Where the two input windows of region 0 stand at a point: the batch and the run of pixels. -/
theorem index0 (t : Fin cfg0.N) : win0_0.index t 0 = t.val / 6 ∧ win0_0.index t 1 = 0 ∧ win0_0.index t 2 = t.val % 6
    ∧ win0_1.index t 0 = t.val / 6 ∧ win0_1.index t 1 = 0 ∧ win0_1.index t 2 = t.val % 6 := by
  revert t; decide +kernel

/-- A point's block of the masks. -/
theorem masks_apply (t : Fin cfg0.N) (b : Fin 4) (k : ℕ) (hk : k < 6) (ht : t.val = 6 * b.val + k) (j : Fin 8) (l : Fin 24576) :
    iblk0 V c 1 t (ix3 0 j l) = masks V c (ix3 b j ⟨k * 24576 + l.val, by omega⟩) := by
  obtain ⟨-, -, -, h0, h1, h2⟩ := index0 t
  unfold iblk0
  rw [View.read_apply]
  show V c main_call0_v7 _ = V c main_call0_v7 _
  congr 1
  funext a
  apply Fin.ext
  match a with
  | ⟨0, _⟩ => show win0_1.index t 0 * 1 + 1 * 0 = b.val; omega
  | ⟨1, _⟩ => show win0_1.index t 1 * 8 + 1 * j.val = j.val; omega
  | ⟨2, _⟩ => show win0_1.index t 2 * 24576 + 1 * l.val = k * 24576 + l.val; rw [h2]; omega

/-- A point's block of the images. -/
theorem imgs_apply (t : Fin cfg0.N) (b : Fin 4) (k : ℕ) (hk : k < 6) (ht : t.val = 6 * b.val + k) (d : Fin 192) (l : Fin 24576) :
    iblk0 V c 0 t (ix3 0 d l) = imgs V c (ix3 b d ⟨k * 24576 + l.val, by omega⟩) := by
  obtain ⟨h0, h1, h2, -⟩ := index0 t
  unfold iblk0
  rw [View.read_apply]
  show V c main_call0_v8 _ = V c main_call0_v8 _
  congr 1
  funext a
  apply Fin.ext
  match a with
  | ⟨0, _⟩ => show win0_0.index t 0 * 1 + 1 * 0 = b.val; omega
  | ⟨1, _⟩ => show win0_0.index t 1 * 192 + 1 * d.val = d.val; omega
  | ⟨2, _⟩ => show win0_0.index t 2 * 24576 + 1 * l.val = k * 24576 + l.val; rw [h2]; omega

/-- The masked value of one pixel. -/
def px (b : Fin 4) (j : Fin 8) (d : Fin 192) (p : Fin 147456) : EReal := masks V c (ix3 b j p) * imgs V c (ix3 b d p)

/-- What a point adds to a masked sum: its run of pixels. -/
theorem step_sums (t : Fin cfg0.N) (b : Fin 4) (k : ℕ) (hk : k < 6) (ht : t.val = 6 * b.val + k) (j : Fin 8) (d : Fin 192)
    (o : Vec Ideal S1x8x192 .f32) :
    k0_pay4 (iblk0 V c 1 t) (iblk0 V c 0 t) o (ix3 0 j d) = o (ix3 0 j d) + tile (px V c b j d) k := by
  rw [pay4_apply, tile, dif_pos hk]
  refine congrArg _ (Finset.sum_congr rfl fun l _ => ?_)
  rw [masks_apply V c t b k hk ht, imgs_apply V c t b k hk ht]; rfl

/-- What a point adds to an area: its run of pixels. -/
theorem step_area (t : Fin cfg0.N) (b : Fin 4) (k : ℕ) (hk : k < 6) (ht : t.val = 6 * b.val + k) (j : Fin 8) (l : Fin 128)
    (o : Vec Ideal S1x8x128 .f32) :
    k0_pay5 (iblk0 V c 1 t) o (ix3 0 j l) = o (ix3 0 j l) + tile (fun p => masks V c (ix3 b j p)) k := by
  rw [pay5_apply, tile, dif_pos hk]
  refine congrArg _ (Finset.sum_congr rfl fun l _ => ?_)
  rw [masks_apply V c t b k hk ht]

/-- The two accumulators after the `k`-th point of a batch: the sums over the runs of pixels so far. -/
theorem outs_apply (b : Fin 4) : ∀ (k : ℕ) (hk : k < 6) (n : ℕ) (hn : n < cfg0.N) (_ : n = 6 * b.val + k) (j : Fin 8),
    (∀ d : Fin 192, (outsAt0 V c n hn).1 (ix3 0 j d) = ∑ s ∈ Finset.range (k + 1), tile (px V c b j d) s)
    ∧ ∀ l : Fin 128, (outsAt0 V c n hn).2 (ix3 0 j l) = ∑ s ∈ Finset.range (k + 1), tile (fun p => masks V c (ix3 b j p)) s
  | 0, hk, n, hn, hb, j => by
    have h0 : (⟨n, hn⟩ : Fin cfg0.N).val % 6 = 0 := by dsimp only; omega
    have hA := outsAt0_A V c ⟨n, hn⟩ h0
    refine ⟨fun d => ?_, fun l => ?_⟩
    · rw [hA]; dsimp only
      rw [sums_A, step_sums V c ⟨n, hn⟩ b 0 hk hb, pay1_apply, zero_add, Finset.sum_range_one]
    · rw [hA]; dsimp only
      rw [area_A, step_area V c ⟨n, hn⟩ b 0 hk hb, pay2_apply, zero_add, Finset.sum_range_one]
  | k + 1, hk, n, hn, hb, j => by
    have h0 : ¬(⟨n, hn⟩ : Fin cfg0.N).val % 6 = 0 := by dsimp only; omega
    have hB := outsAt0_B V c ⟨n, hn⟩ h0
    have ih := outs_apply b k (by omega) (n - 1) (by omega) (by omega) j
    refine ⟨fun d => ?_, fun l => ?_⟩
    · rw [hB]; dsimp only
      rw [sums_B, step_sums V c ⟨n, hn⟩ b (k + 1) hk hb, ih.1 d, ← Finset.sum_range_succ]
    · rw [hB]; dsimp only
      rw [area_B, step_area V c ⟨n, hn⟩ b (k + 1) hk hb, ih.2 l, ← Finset.sum_range_succ]

end Cert.KernelIdeal.Seg

end
-- ==== Proof.Arrays.lean ====
module

public import proofs.«01_k».proof.Proof.Fold
public import Idealize.ShloMosaic.Lib.Pipeline.ValueKit.Geometry

@[expose] public section

set_option maxRecDepth 16384

noncomputable section

namespace Cert.KernelIdeal.Seg

open Idealize.ShloMosaic Idealize.ShloMosaic.TcCoe Idealize.ShloMosaic.Tactic Cert.KernelIdeal.Gen
open Idealize.ShloMosaic.Pipeline (Dat)

variable (V : (c : Dev nD) → (b : Ref sig .tc) → Buf (Elt Ideal) ((c : Thread nD τ).loc b)) (c : Dev nD)

/-- The masked sum of one batch, segment and channel over the whole image. -/
def sumsVal (b : Fin 4) (j : Fin 8) (d : Fin 192) : EReal := ∑ p, px V c b j d p

/-- The mask area of one batch and segment. -/
def areaVal (b : Fin 4) (j : Fin 8) : EReal := ∑ p : Fin 147456, masks V c (ix3 b j p)

/-- The masked sums, as an array. -/
def sumsArr : Vec Ideal S4x8x192 .f32 := fun i => sumsVal V c (i 0) (i 1) (i 2)

/-- The mask areas, the same in each lane, as an array. -/
def areaArr : Vec Ideal S4x8x128 .f32 := fun i => areaVal V c (i 0) (i 1)

/-- The sums' array read at an index of known coordinates. -/
theorem sumsArr_at (i : S4x8x192.Idx) (b : Fin 4) (j : Fin 8) (d : Fin 192) (h0 : (i 0).val = b.val) (h1 : (i 1).val = j.val)
    (h2 : (i 2).val = d.val) : sumsArr V c i = sumsVal V c b j d := by
  obtain rfl : i 0 = b := Fin.ext h0
  obtain rfl : i 1 = j := Fin.ext h1
  obtain rfl : i 2 = d := Fin.ext h2
  rfl

/-- The areas' array read at an index of known coordinates. -/
theorem areaArr_at (i : S4x8x128.Idx) (b : Fin 4) (j : Fin 8) (h0 : (i 0).val = b.val) (h1 : (i 1).val = j.val) :
    areaArr V c i = areaVal V c b j := by
  obtain rfl : i 0 = b := Fin.ext h0
  obtain rfl : i 1 = j := Fin.ext h1
  rfl

/-- The sums' window stands at its point's batch. -/
theorem index0_2 : ∀ t : Fin cfg0.N, win0_2.index t = ![t.val / 6, 0, 0] :=
  (by decide +kernel : ∀ t : Fin grid0.N, win0_2.index t = ![t.val / 6, 0, 0])
/-- The areas' window stands at its point's batch. -/
theorem index0_3 : ∀ t : Fin cfg0.N, win0_3.index t = ![t.val / 6, 0, 0] :=
  (by decide +kernel : ∀ t : Fin grid0.N, win0_3.index t = ![t.val / 6, 0, 0])

/-- The two accumulators after a batch's last point: the sums over the whole image. -/
theorem outs_last (b : Fin 4) (n : ℕ) (hn : n < cfg0.N) (hb : n = 6 * b.val + 5) :
    (outsAt0 V c n hn).1 = (fun i => sumsVal V c b (i 1) (i 2))
    ∧ (outsAt0 V c n hn).2 = fun i => areaVal V c b (i 1) := by
  constructor
  · funext i
    idx_vars i
    obtain rfl : i0 = 0 := Subsingleton.elim _ _
    rw [(outs_apply V c b 5 (by omega) n hn hb i1).1 i2, sum_tile]
    rfl
  · funext i
    idx_vars i
    obtain rfl : i0 = 0 := Subsingleton.elim _ _
    rw [(outs_apply V c b 5 (by omega) n hn hb i1).2 i2, sum_tile]
    rfl

/-- The sums' array after region 0. -/
theorem final_sums : (dat0 V c).arrAt 2 cfg0.N = sumsArr V c := by
  refine (dat0 V c).arrAt_eq_of_covers 2 _ (by decide +kernel) fun t hf y => ?_
  have hN : cfg0.N = 24 := N_0
  have h5 := (flush0_2 t).mp hf
  have ht := t.isLt
  blk_simp
  rw [after0_2, (outs_last V c ⟨t.val / 6, by omega⟩ t.val t.isLt (by dsimp only; omega)).1]
  refine (sumsArr_at V c _ _ _ _ ?_ ?_ ?_).symm
  all_goals blk_simp [index0_2]
  all_goals idx_bounds y
  all_goals try omega

/-- The areas' array after region 0. -/
theorem final_area : (dat0 V c).arrAt 3 cfg0.N = areaArr V c := by
  refine (dat0 V c).arrAt_eq_of_covers 3 _ (by decide +kernel) fun t hf y => ?_
  have hN : cfg0.N = 24 := N_0
  have h5 := (flush0_3 t).mp hf
  have ht := t.isLt
  blk_simp
  rw [after0_3, (outs_last V c ⟨t.val / 6, by omega⟩ t.val t.isLt (by dsimp only; omega)).2]
  refine (areaArr_at V c _ _ _ ?_ ?_).symm
  all_goals blk_simp [index0_3]
  all_goals idx_bounds y
  all_goals try omega

end Cert.KernelIdeal.Seg

end
-- ==== Proof.Linear.lean ====
module

public import proofs.«01_k».proof.Proof.Arrays

@[expose] public section

set_option maxRecDepth 16384

noncomputable section

namespace Cert.KernelIdeal.Seg

open Idealize.ShloMosaic Idealize.ShloMosaic.TcCoe Idealize.ShloMosaic.Tactic Cert.KernelIdeal.Gen
open Idealize.ShloMosaic.Pipeline (Dat)

variable (V : (c : Dev nD) → (b : Ref sig .tc) → Buf (Elt Ideal) ((c : Thread nD τ).loc b)) (c : Dev nD)

/-- The masked sums, the areas, the weights and the biases, as region 1 finds them. -/
abbrev sumsIn : Vec Ideal S8x4x192 .f32 := V c main_call0_v10
/-- See `sumsIn`: the areas. -/
abbrev areaIn : Vec Ideal S8x1x4 .f32 := V c main_call0_v14
/-- See `sumsIn`: the weights. -/
abbrev weightIn : Vec Ideal S8x192x192 .f32 := V c main_arg2
/-- See `sumsIn`: the biases. -/
abbrev biasIn : Vec Ideal S8x1x192 .f32 := V c main_call0_v15

/-- One segment's linear map of the rectified averages, zero where the segment is empty. -/
def linVal (j : Fin 8) (b : Fin 4) (d : Fin 192) : EReal :=
  Scalar.select (Ideal.cmp .ogt (areaIn V c (ix3 j 0 b)) 0)
    ((∑ e : Fin 192, max (Ideal.div (sumsIn V c (ix3 j b e)) (max (areaIn V c (ix3 j 0 b)) 1)) 0 * weightIn V c (ix3 j d e))
      + biasIn V c (ix3 j 0 d)) 0

/-- Region 1's result, whole. -/
def linArr : Vec Ideal S8x4x192 .f32 := fun i => linVal V c (i 0) (i 1) (i 2)

/-- Every input window of region 1 stands at its point's segment. -/
theorem index1 (t : Fin cfg1.N) : (win1_0.index t 0 = t.val ∧ win1_0.index t 1 = 0 ∧ win1_0.index t 2 = 0)
    ∧ (win1_1.index t 0 = t.val ∧ win1_1.index t 1 = 0 ∧ win1_1.index t 2 = 0)
    ∧ (win1_2.index t 0 = t.val ∧ win1_2.index t 1 = 0 ∧ win1_2.index t 2 = 0)
    ∧ win1_3.index t 0 = t.val ∧ win1_3.index t 1 = 0 ∧ win1_3.index t 2 = 0 := by
  revert t; decide +kernel

/-- A point's block of the masked sums. -/
theorem sumsIn_apply (t : Fin cfg1.N) (j : Fin 8) (ht : t.val = j.val) (b : Fin 4) (e : Fin 192) :
    iblk1 V c 0 t (ix3 0 b e) = sumsIn V c (ix3 j b e) := by
  obtain ⟨⟨h0, h1, h2⟩, -⟩ := index1 t
  unfold iblk1
  rw [View.read_apply]
  show V c main_call0_v10 _ = V c main_call0_v10 _
  congr 1; funext a; apply Fin.ext
  match a with
  | ⟨0, _⟩ => show win1_0.index t 0 * 1 + 1 * 0 = j.val; omega
  | ⟨1, _⟩ => show win1_0.index t 1 * 4 + 1 * b.val = b.val; omega
  | ⟨2, _⟩ => show win1_0.index t 2 * 192 + 1 * e.val = e.val; omega

/-- A point's block of the areas. -/
theorem areaIn_apply (t : Fin cfg1.N) (j : Fin 8) (ht : t.val = j.val) (b : Fin 4) :
    iblk1 V c 1 t (ix3 0 0 b) = areaIn V c (ix3 j 0 b) := by
  obtain ⟨-, ⟨h0, h1, h2⟩, -⟩ := index1 t
  unfold iblk1
  rw [View.read_apply]
  show V c main_call0_v14 _ = V c main_call0_v14 _
  congr 1; funext a; apply Fin.ext
  match a with
  | ⟨0, _⟩ => show win1_1.index t 0 * 1 + 1 * 0 = j.val; omega
  | ⟨1, _⟩ => show win1_1.index t 1 * 1 + 1 * 0 = 0; omega
  | ⟨2, _⟩ => show win1_1.index t 2 * 4 + 1 * b.val = b.val; omega

/-- A point's block of the weights. -/
theorem weightIn_apply (t : Fin cfg1.N) (j : Fin 8) (ht : t.val = j.val) (d e : Fin 192) :
    iblk1 V c 2 t (ix3 0 d e) = weightIn V c (ix3 j d e) := by
  obtain ⟨-, -, ⟨h0, h1, h2⟩, -⟩ := index1 t
  unfold iblk1
  rw [View.read_apply]
  show V c main_arg2 _ = V c main_arg2 _
  congr 1; funext a; apply Fin.ext
  match a with
  | ⟨0, _⟩ => show win1_2.index t 0 * 1 + 1 * 0 = j.val; omega
  | ⟨1, _⟩ => show win1_2.index t 1 * 192 + 1 * d.val = d.val; omega
  | ⟨2, _⟩ => show win1_2.index t 2 * 192 + 1 * e.val = e.val; omega

/-- A point's block of the biases. -/
theorem biasIn_apply (t : Fin cfg1.N) (j : Fin 8) (ht : t.val = j.val) (d : Fin 192) :
    iblk1 V c 3 t (ix3 0 0 d) = biasIn V c (ix3 j 0 d) := by
  obtain ⟨-, -, -, h0, h1, h2⟩ := index1 t
  unfold iblk1
  rw [View.read_apply]
  show V c main_call0_v15 _ = V c main_call0_v15 _
  congr 1; funext a; apply Fin.ext
  match a with
  | ⟨0, _⟩ => show win1_3.index t 0 * 1 + 1 * 0 = j.val; omega
  | ⟨1, _⟩ => show win1_3.index t 1 * 1 + 1 * 0 = 0; omega
  | ⟨2, _⟩ => show win1_3.index t 2 * 192 + 1 * d.val = d.val; omega

/-- What region 1's body leaves at the point of segment `j`. -/
theorem out1_eq (t : Fin cfg1.N) (j : Fin 8) (ht : t.val = j.val) :
    out1_4 (iblk1 V c 0 t) (iblk1 V c 1 t) (iblk1 V c 2 t) (iblk1 V c 3 t) = fun i => linVal V c j (i 1) (i 2) := by
  funext i
  idx_vars i
  obtain rfl : i0 = 0 := Subsingleton.elim _ _
  rw [lin_out, lin_apply, areaIn_apply V c t j ht, biasIn_apply V c t j ht]
  simp only [sumsIn_apply V c t j ht, weightIn_apply V c t j ht]
  rfl

/-- Region 1's result read at an index of known coordinates. -/
theorem linArr_at (i : S8x4x192.Idx) (j : Fin 8) (b : Fin 4) (d : Fin 192) (h0 : (i 0).val = j.val) (h1 : (i 1).val = b.val)
    (h2 : (i 2).val = d.val) : linArr V c i = linVal V c j b d := by
  obtain rfl : i 0 = j := Fin.ext h0
  obtain rfl : i 1 = b := Fin.ext h1
  obtain rfl : i 2 = d := Fin.ext h2
  rfl

/-- Region 1's output window stands at its point's segment. -/
theorem index1_4 : ∀ t : Fin cfg1.N, win1_4.index t = ![t.val, 0, 0] :=
  (by decide +kernel : ∀ t : Fin grid1.N, win1_4.index t = ![t.val, 0, 0])

/-- Region 1's result array at its end. -/
theorem final_lin : (dat1 V c).arrAt 4 cfg1.N = linArr V c := by
  refine (dat1 V c).arrAt_eq_of_covers 4 _ (by decide +kernel) fun t hf y => ?_
  have hN : cfg1.N = 8 := N_1
  have ht : t.val < 8 := lt_of_lt_of_eq t.isLt hN
  blk_simp
  rw [after1_4, out1_eq V c t ⟨t.val, ht⟩ rfl]
  refine (linArr_at V c _ _ _ _ ?_ ?_ ?_).symm
  all_goals blk_simp [index1_4]
  all_goals idx_bounds y
  all_goals try omega

end Cert.KernelIdeal.Seg

end
-- ==== Proof.Spec.lean ====
module

public import Idealize.ShloMosaic.Lib.Pointwise

@[expose] public section

noncomputable section

namespace Cert.Seg

open Idealize.ShloMosaic

/-- The mask of segment `j` of image `b` at pixel `(h, w)`: one where the label map, repeated four times along both
    axes, is not zero, and zero elsewhere. -/
def mask (x1 : (⟨4, ![4, 8, 96, 96]⟩ : Shape).Idx → EReal) (b : Fin 4) (j : Fin 8) (h w : Fin 384) : EReal :=
  FloatOps.uitofp (F := Ideal) .f32
    (Ideal.cmp .une (x1 (ix4 b j ⟨h.val / 4, by omega⟩ ⟨w.val / 4, by omega⟩)) 0)

/-- The number of pixels of segment `j` of image `b`. -/
def area (x1 : (⟨4, ![4, 8, 96, 96]⟩ : Shape).Idx → EReal) (b : Fin 4) (j : Fin 8) : EReal :=
  ∑ h : Fin 384, ∑ w : Fin 384, mask x1 b j h w

/-- The sum of channel `c` of image `b` over the pixels of segment `j`. -/
def sums (x0 : (⟨4, ![4, 192, 384, 384]⟩ : Shape).Idx → EReal) (x1 : (⟨4, ![4, 8, 96, 96]⟩ : Shape).Idx → EReal)
    (b : Fin 4) (j : Fin 8) (c : Fin 192) : EReal :=
  ∑ h : Fin 384, ∑ w : Fin 384, mask x1 b j h w * x0 (ix4 b c h w)

/-- The result at image `b`, segment `j`, output channel `d`: the segment's mean features cut at zero, times the
    segment's weights, plus its bias; zero where the segment has no pixel. -/
def result (x0 : (⟨4, ![4, 192, 384, 384]⟩ : Shape).Idx → EReal) (x1 : (⟨4, ![4, 8, 96, 96]⟩ : Shape).Idx → EReal)
    (x2 : (⟨3, ![8, 192, 192]⟩ : Shape).Idx → EReal) (x3 : (⟨2, ![8, 192]⟩ : Shape).Idx → EReal)
    (b : Fin 4) (j : Fin 8) (d : Fin 192) : EReal :=
  Scalar.select (Ideal.cmp .ogt (area x1 b j) 0)
    ((∑ c : Fin 192, max (Ideal.div (sums x0 x1 b j c) (max (area x1 b j) 1)) 0 * x2 (ix3 j d c)) + x3 (ix2 j d))
    0

end Cert.Seg

end
-- ==== Proof.Host.lean ====
module

public import proofs.«01_k».proof.Proof.Linear
public import proofs.«01_k».proof.Proof.Spec

@[expose] public section

set_option maxRecDepth 16384

noncomputable section

namespace Cert.KernelIdeal.Seg

open Idealize.ShloMosaic Idealize.ShloMosaic.TcCoe Idealize.ShloMosaic.Tactic Cert.KernelIdeal.Gen
open Idealize.ShloMosaic.StableHlo

variable (m : (ℓ : Loc nD τ sig) → Buf (Elt Ideal) ℓ) (ρ : Dev nD → PrngReg) (c : Dev nD)

/-- The features, as launched. -/
abbrev feat : Vec Ideal S4x192x384x384 .f32 := m ((c.tc : Thread nD τ).loc main_arg0)
/-- The segment maps, as launched. -/
abbrev segs0 : Vec Ideal S4x8x96x96 .f32 := m ((c.tc : Thread nD τ).loc main_arg1)
/-- The weights, as launched. -/
abbrev weight : Vec Ideal S8x192x192 .f32 := m ((c.tc : Thread nD τ).loc main_arg2)
/-- The biases, as launched. -/
abbrev bias : Vec Ideal S8x192 .f32 := m ((c.tc : Thread nD τ).loc main_arg3)

/-- The images region 0 reads are the features, each image's pixels in one row. -/
theorem imgs_eq : imgs (V1 m ρ) c = shapeCast S4x192x147456 (feat m c) shapeCasts_S4x192x384x384_S4x192x147456 := by
  show after hostOps0 (W0 m ρ c) _ = _
  simp only [hostOps0, TRef.binary, TRef.nullary, TRef.unary, TRef.reshape, TRef.toBuf, TRef.ofBuf, cast_eq]
  after_results_simp <;> rfl

/-- The masks region 0 reads: each segment map's nonzero indicator, enlarged four times each way, its pixels in one row. -/
theorem masks_eq : masks (V1 m ρ) c = shapeCast S4x8x147456 (shapeCast S4x8x384x384
    (broadcastInDim S4x8x384x96x4 ![0, 1, 2, 3] bcast_S4x8x384x96_S4x8x384x96x4_0_1_2_3 (shapeCast S4x8x384x96
    (broadcastInDim S4x8x96x4x96 ![0, 1, 2, 4] bcast_S4x8x96x96_S4x8x96x4x96_0_1_2_4 (uitofp (F := Ideal) .bf16 (cmpf .une (segs0 m c)
      (broadcastInDim S4x8x96x96 ![] bcast_S_S4x8x96x96 (constant (F := Ideal) S_ .f32 0x00000000#32)))))
    shapeCasts_S4x8x96x4x96_S4x8x384x96)) shapeCasts_S4x8x384x96x4_S4x8x384x384) shapeCasts_S4x8x384x384_S4x8x147456 := by
  show after hostOps0 (W0 m ρ c) _ = _
  simp only [hostOps0, TRef.binary, TRef.nullary, TRef.unary, TRef.reshape, TRef.toBuf, TRef.ofBuf, cast_eq]
  after_results_simp <;> rfl

/-- A feature in the row of its image's pixels. -/
theorem imgs_at (b : Fin 4) (d : Fin 192) (h w : Fin 384) (hp : h.val * 384 + w.val < 147456) :
    imgs (V1 m ρ) c (ix3 b d ⟨h.val * 384 + w.val, hp⟩) = feat m c (ix4 b d h w) := by
  rw [imgs_eq]
  pointwise

/-- A mask in the row of its image's pixels. -/
theorem masks_at (b : Fin 4) (j : Fin 8) (h w : Fin 384) (hp : h.val * 384 + w.val < 147456) :
    masks (V1 m ρ) c (ix3 b j ⟨h.val * 384 + w.val, hp⟩) = Cert.Seg.mask (segs0 m c) b j h w := by
  rw [masks_eq]
  pointwise [Cert.Seg.mask]
  have e : (h.val * 384 + w.val) / 4 % 96 = w.val / 4 := by omega
  simp only [e]
  rfl

/-- The masked sums region 1 reads are those region 0 leaves, the segment's axis first. -/
theorem sumsIn_eq : sumsIn (V3 m ρ) c
    = transpose S8x4x192 [1, 0, 2] (sumsArr (V1 m ρ) c) transposes_S4x8x192_S8x4x192_1_0_2 := by
  have h : W2 m ρ c (Proc.devRef .tc main_call0_v9_0) = sumsArr (V1 m ρ) c := (W2_arr m ρ c 2).trans (final_sums (V1 m ρ) c)
  rw [← h]
  show after hostOps1 (W2 m ρ c) _ = _
  simp only [hostOps1, TRef.binary, TRef.nullary, TRef.unary, TRef.reshape, TRef.toBuf, TRef.ofBuf, cast_eq]
  after_results_simp <;> rfl

/-- The areas region 1 reads are the first lane of those region 0 leaves, the segment's axis first. -/
theorem areaIn_eq : areaIn (V3 m ρ) c
    = shapeCast S8x1x4 (transpose S8x4 [1, 0] (shapeCast S4x8 (extractStridedSlice S4x8x1 ![0, 0, 0] (areaArr (V1 m ρ) c)
      slices_S4x8x128_S4x8x1_0_0_0) shapeCasts_S4x8x1_S4x8) transposes_S4x8_S8x4_1_0) shapeCasts_S8x4_S8x1x4 := by
  have h : W2 m ρ c (Proc.devRef .tc main_call0_v9_1) = areaArr (V1 m ρ) c := (W2_arr m ρ c 3).trans (final_area (V1 m ρ) c)
  rw [← h]
  show after hostOps1 (W2 m ρ c) _ = _
  simp only [hostOps1, TRef.binary, TRef.nullary, TRef.unary, TRef.reshape, TRef.toBuf, TRef.ofBuf, cast_eq]
  after_results_simp <;> rfl

/-- The weights region 1 reads are the launched ones. -/
theorem weightIn_eq : weightIn (V3 m ρ) c = weight m c := W3_args m ρ c main_arg2 (by decide)

/-- The biases region 1 reads are the launched ones. -/
theorem biasIn_eq : biasIn (V3 m ρ) c = shapeCast S8x1x192 (bias m c) shapeCasts_S8x192_S8x1x192 := by
  have h : W2 m ρ c (Proc.devRef .tc main_arg3) = bias m c := W2_args m ρ c main_arg3 (by decide)
  rw [← h]
  show after hostOps1 (W2 m ρ c) _ = _
  simp only [hostOps1, TRef.binary, TRef.nullary, TRef.unary, TRef.reshape, TRef.toBuf, TRef.ofBuf, cast_eq]
  after_results_simp <;> rfl

/-- The program's result is region 1's, the batch's axis first. -/
theorem result_eq : (W5 m ρ c main_v0 : Vec Ideal S4x8x192 .f32)
    = transpose S4x8x192 [1, 0, 2] (linArr (V3 m ρ) c) transposes_S8x4x192_S4x8x192_1_0_2 := by
  have h : W4 m ρ c (Proc.devRef .tc main_call0_v16) = linArr (V3 m ρ) c := (W4_arr m ρ c 4).trans (final_lin (V3 m ρ) c)
  rw [← h]
  show after hostOps2 (W4 m ρ c) _ = _
  simp only [hostOps2, TRef.binary, TRef.nullary, TRef.unary, TRef.reshape, TRef.toBuf, TRef.ofBuf, cast_eq]
  after_results_simp <;> rfl

end Cert.KernelIdeal.Seg

end
-- ==== Proof.Ref.lean ====
module

public import proofs.«01_k».proof.Proof.Spec
public import proofs.«01_k».proof.Proof.Gen.ReferenceIdeal.Read

@[expose] public section

noncomputable section

namespace Cert.ReferenceIdeal.Seg

open Idealize.ShloMosaic Cert.ReferenceIdeal.Read

variable [Facts]

/-- The reference's mask, at a pixel, is the label map's entry at a quarter of the coordinates, compared with zero. -/
theorem mask_apply (x1 : (⟨S4x8x96x96, .f32⟩ : BufTy).Contents (Elt Ideal)) (b : Fin 4) (j : Fin 8) (h w : Fin 384) :
    val_main_v6 (F := Ideal) x1 (ix4 b j h w) = Cert.Seg.mask x1 b j h w := by
  pointwise [val_main_v6, val_main_v5, val_main_v4, val_main_v3, val_main_v2, val_main_v1, val_main_v0, val_main_cst, Cert.Seg.mask]

/-- The reference's area of a segment is its mask's sum over both pixel axes. -/
theorem area_apply (x1 : (⟨S4x8x96x96, .f32⟩ : BufTy).Contents (Elt Ideal)) (b : Fin 4) (j : Fin 8) :
    val_main_v7 (F := Ideal) x1 (ix2 b j) = Cert.Seg.area x1 b j := by
  pointwise [val_main_v7, val_main_cst_0, mask_apply, Cert.Seg.area]

/-- The reference's first product is the mask times the features summed over both pixel axes. -/
theorem sums_apply (x0 : (⟨S4x192x384x384, .f32⟩ : BufTy).Contents (Elt Ideal))
    (x1 : (⟨S4x8x96x96, .f32⟩ : BufTy).Contents (Elt Ideal)) (b : Fin 4) (j : Fin 8) (c : Fin 192) :
    val_main_v8 (F := Ideal) x0 x1 (ix3 b j c) = Cert.Seg.sums x0 x1 b j c := by
  pointwise [val_main_v8, dot_S4x8x384x384_S4x192x384x384_S4x8x192_23_23_1_1_0_0, mask_apply, Cert.Seg.sums]

/-- The reference's result at an index. -/
theorem result_apply (x0 : (⟨S4x192x384x384, .f32⟩ : BufTy).Contents (Elt Ideal))
    (x1 : (⟨S4x8x96x96, .f32⟩ : BufTy).Contents (Elt Ideal)) (x2 : (⟨S8x192x192, .f32⟩ : BufTy).Contents (Elt Ideal))
    (x3 : (⟨S8x192, .f32⟩ : BufTy).Contents (Elt Ideal)) (b : Fin 4) (j : Fin 8) (d : Fin 192) :
    val_main_v24 (F := Ideal) x0 x1 x2 x3 (ix3 b j d) = Cert.Seg.result x0 x1 x2 x3 b j d := by
  pointwise [val_main_v24, val_main_v23, val_main_v22, val_main_v21, val_main_v20, val_main_v19, val_main_v18,
    val_main_v17, val_main_v16, val_main_v15, val_main_v14, val_main_v13, val_main_v12, val_main_v11, val_main_v10,
    val_main_v9, val_main_cst_1, val_main_cst_2, val_main_cst_3, val_main_call0_v0, val_main_call0_cst,
    val_main_call1_v0, dot_S8x192x192_S4x8x192_S8x192x4_2_2_1_0_0_1, area_apply, sums_apply, Cert.Seg.result]
  simp only [mul_comm (x2 _)]

end Cert.ReferenceIdeal.Seg

end
-- ==== Proof.Equation.lean ====
module

public import proofs.«01_k».proof.Proof.Host
public import proofs.«01_k».proof.Proof.Ref

@[expose] public section

set_option maxRecDepth 16384

noncomputable section

namespace Cert.KernelIdeal.Seg

open Idealize.ShloMosaic Idealize.ShloMosaic.TcCoe Idealize.ShloMosaic.Tactic Cert.KernelIdeal.Gen

variable (m : (ℓ : Loc nD τ sig) → Buf (Elt Ideal) ℓ) (ρ : Dev nD → PrngReg) (c : Dev nD)

/-- A sum over an image's pixels in a row is the sum over its rows and columns. -/
theorem sum_pixels (f : Fin 147456 → EReal) (g : Fin 384 → Fin 384 → EReal)
    (h : ∀ (r s : Fin 384) (hp : r.val * 384 + s.val < 147456), f ⟨r.val * 384 + s.val, hp⟩ = g r s) : ∑ p, f p = ∑ r, ∑ s, g r s := by
  rw [Fin.sum_univ_tiles 384 384 (by norm_num) f]
  exact Finset.sum_congr rfl fun r _ => Finset.sum_congr rfl fun s _ => h r s _

/-- A masked sum, over rows and columns of the launched arrays. -/
theorem sumsVal_eq (b : Fin 4) (j : Fin 8) (d : Fin 192) : sumsVal (V1 m ρ) c b j d = Cert.Seg.sums (feat m c) (segs0 m c) b j d := by
  refine sum_pixels _ _ fun r s hp => ?_
  rw [px, masks_at, imgs_at]

/-- An area, over rows and columns of the launched segment maps. -/
theorem areaVal_eq (b : Fin 4) (j : Fin 8) : areaVal (V1 m ρ) c b j = Cert.Seg.area (segs0 m c) b j :=
  sum_pixels _ _ fun r s hp => masks_at m ρ c b j r s hp

/-- A masked sum as region 1 reads it. -/
theorem sumsIn_at (j : Fin 8) (b : Fin 4) (d : Fin 192) :
    sumsIn (V3 m ρ) c (ix3 j b d) = Cert.Seg.sums (feat m c) (segs0 m c) b j d := by
  rw [← sumsVal_eq m ρ c b j d, sumsIn_eq]
  pointwise [sumsArr]

/-- An area as region 1 reads it. -/
theorem areaIn_at (j : Fin 8) (b : Fin 4) : areaIn (V3 m ρ) c (ix3 j 0 b) = Cert.Seg.area (segs0 m c) b j := by
  rw [← areaVal_eq m ρ c b j, areaIn_eq]
  pointwise [areaArr]

/-- A bias as region 1 reads it. -/
theorem biasIn_at (j : Fin 8) (d : Fin 192) : biasIn (V3 m ρ) c (ix3 j 0 d) = bias m c (ix2 j d) := by
  rw [biasIn_eq]
  pointwise

/-- The program's result at an index, from the launched arrays. -/
theorem result_at (b : Fin 4) (j : Fin 8) (d : Fin 192) : (W5 m ρ c main_v0 : Vec Ideal S4x8x192 .f32) (ix3 b j d)
    = Cert.Seg.result (feat m c) (segs0 m c) (weight m c) (bias m c) b j d := by
  have h : (W5 m ρ c main_v0 : Vec Ideal S4x8x192 .f32) (ix3 b j d) = linVal (V3 m ρ) c j b d := by
    rw [result_eq]
    pointwise [linArr]
  rw [h, linVal, Cert.Seg.result, areaIn_at, biasIn_at, weightIn_eq,
    Finset.sum_congr rfl fun e _ => by rw [sumsIn_at m ρ c j b e]]

/-- The program's result is the reference's composed term of the launched arrays. -/
theorem result_ref [Cert.ReferenceIdeal.Facts] : (W5 m ρ c main_v0 : Vec Ideal S4x8x192 .f32)
    = Cert.ReferenceIdeal.Read.val_main_v24 (F := Ideal) (feat m c) (segs0 m c) (weight m c) (bias m c) := by
  funext i
  idx_vars i
  exact (result_at m ρ c i0 i1 i2).trans (Cert.ReferenceIdeal.Seg.result_apply (feat m c) (segs0 m c) (weight m c) (bias m c) i0 i1 i2).symm

end Cert.KernelIdeal.Seg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, leaves its arguments unchanged and, declaring no semaphore, ends with every counter at zero. -/
theorem frame_ref : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From memories agreeing on the arguments the kernel's idealization and the reference end with the same result: each
    result is the segment averages, rectified and mapped linearly, zero where a segment is empty. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Gen.W5 m ρ c (Proc.devRef .tc Cert.KernelIdeal.main_v0), Cert.KernelIdeal.Seg.run m ρ, ?_⟩
  refine (θ_run Cert.ReferenceIdeal.defs _ _).mono (fun r h c => ⟨?_, (h c).2⟩)
    (Cert.ReferenceIdeal.Value.run (F := Ideal) m' ρ')
  obtain ⟨e0, e1, e2, e3⟩ := hagree c
  refine (h c).1.trans ((Cert.ReferenceIdeal.Read.val_main_v24_eq (F := Ideal) _ _ _ _).trans ?_)
  rw [e0, e1, e2, e3]
  exact (Cert.KernelIdeal.Seg.result_ref m ρ c).symm

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_ref, trivial, algebraic⟩

end Cert.Proof

end
